-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x32x32 : Shape := ⟨4, ![16, 256, 32, 32]⟩
abbrev S50x256 : Shape := ⟨2, ![50, 256]⟩
abbrev S16x512x32x32 : Shape := ⟨4, ![16, 512, 32, 32]⟩
abbrev S512x32x32 : Shape := ⟨3, ![512, 32, 32]⟩
abbrev S_ : Shape := ⟨0, ![]⟩
abbrev S32x256 : Shape := ⟨2, ![32, 256]⟩
abbrev S256x32 : Shape := ⟨2, ![256, 32]⟩
abbrev S256x1x32 : Shape := ⟨3, ![256, 1, 32]⟩
abbrev S256x32x32 : Shape := ⟨3, ![256, 32, 32]⟩
abbrev S256x32x1 : Shape := ⟨3, ![256, 32, 1]⟩
abbrev S1x512x32x32 : Shape := ⟨4, ![1, 512, 32, 32]⟩

abbrev nBuf : Space → Nat
  | .hbm => 4
  | .vmem => 3
  | .smem => 0
  | _ => 0

abbrev bufTy : (tb : Table) → Fin (tcTables nBuf tb) → BufTy
  | .hbm, ⟨0, _⟩ => ⟨S16x256x32x32, .f32⟩
  | .hbm, ⟨1, _⟩ => ⟨S50x256, .f32⟩
  | .hbm, ⟨2, _⟩ => ⟨S50x256, .f32⟩
  | .hbm, ⟨3, _⟩ => ⟨S16x512x32x32, .f32⟩
  | .local _ .vmem, ⟨0, _⟩ => ⟨S50x256, .f32⟩
  | .local _ .vmem, ⟨1, _⟩ => ⟨S50x256, .f32⟩
  | .local _ .vmem, ⟨2, _⟩ => ⟨S512x32x32, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S50x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x256x32x32 : Shape := ⟨4, ![16, 256, 32, 32]⟩
abbrev S50x256 : Shape := ⟨2, ![50, 256]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S1x32x256 : Shape := ⟨3, ![1, 32, 256]⟩
abbrev S1x1x1x32x1x256 : Shape := ⟨6, ![1, 1, 1, 32, 1, 256]⟩
abbrev S32x1x1x32x1x256 : Shape := ⟨6, ![32, 1, 1, 32, 1, 256]⟩
abbrev S32x32x256 : Shape := ⟨3, ![32, 32, 256]⟩
abbrev S32x1x256 : Shape := ⟨3, ![32, 1, 256]⟩
abbrev S1x32x1x1x1x256 : Shape := ⟨6, ![1, 32, 1, 1, 1, 256]⟩
abbrev S1x32x32x1x1x256 : Shape := ⟨6, ![1, 32, 32, 1, 1, 256]⟩
abbrev S32x32x512 : Shape := ⟨3, ![32, 32, 512]⟩
abbrev S512x32x32 : Shape := ⟨3, ![512, 32, 32]⟩
abbrev S1x512x32x32 : Shape := ⟨4, ![1, 512, 32, 32]⟩
abbrev S1x1x1x512x1x32x1x32 : Shape := ⟨8, ![1, 1, 1, 512, 1, 32, 1, 32]⟩
abbrev S16x1x1x512x1x32x1x32 : Shape := ⟨8, ![16, 1, 1, 512, 1, 32, 1, 32]⟩
abbrev S16x512x32x32 : Shape := ⟨4, ![16, 512, 32, 32]⟩

abbrev nBuf : Space → Nat
  | .hbm => 65
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S50x256, .f32⟩
  | .hbm, ⟨2, _⟩ => ⟨S50x256, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x256, .f32⟩
  | .hbm, ⟨24, _⟩ => ⟨S32x256, .i1⟩
  | .hbm, ⟨25, _⟩ => ⟨S_, .f32⟩
  | .hbm, ⟨26, _⟩ => ⟨S32x256, .f32⟩
  | .hbm, ⟨27, _⟩ => ⟨S32x256, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S1x1, .i32⟩
  | .hbm, ⟨41, _⟩ => ⟨S32x1, .i32⟩
  | .hbm, ⟨42, _⟩ => ⟨S32x1, .i1⟩
  | .hbm, ⟨43, _⟩ => ⟨S32x1, .i1⟩
  | .hbm, ⟨44, _⟩ => ⟨S_, .i1⟩
  | .hbm, ⟨45, _⟩ => ⟨S32, .i1⟩
  | .hbm, ⟨46, _⟩ => ⟨S32x256, .f32⟩
  | .hbm, ⟨47, _⟩ => ⟨S32x256, .i1⟩
  | .hbm, ⟨48, _⟩ => ⟨S_, .f32⟩
  | .hbm, ⟨49, _⟩ => ⟨S32x256, .f32⟩
  | .hbm, ⟨50, _⟩ => ⟨S32x256, .f32⟩
  | .hbm, ⟨51, _⟩ => ⟨S1x32x256, .f32⟩
  | .hbm, ⟨52, _⟩ => ⟨S1x1x1x32x1x256, .f32⟩
  | .hbm, ⟨53, _⟩ => ⟨S32x1x1x32x1x256, .f32⟩
  | .hbm, ⟨54, _⟩ => ⟨S32x32x256, .f32⟩
  | .hbm, ⟨55, _⟩ => ⟨S32x1x256, .f32⟩
  | .hbm, ⟨56, _⟩ => ⟨S1x32x1x1x1x256, .f32⟩
  | .hbm, ⟨57, _⟩ => ⟨S1x32x32x1x1x256, .f32⟩
  | .hbm, ⟨58, _⟩ => ⟨S32x32x256, .f32⟩
  | .hbm, ⟨59, _⟩ => ⟨S32x32x512, .f32⟩
  | .hbm, ⟨60, _⟩ => ⟨S512x32x32, .f32⟩
  | .hbm, ⟨61, _⟩ => ⟨S1x512x32x32, .f32⟩
  | .hbm, ⟨62, _⟩ => ⟨S1x1x1x512x1x32x1x32, .f32⟩
  | .hbm, ⟨63, _⟩ => ⟨S16x1x1x512x1x32x1x32, .f32⟩
  | .hbm, ⟨64, _⟩ => ⟨S16x512x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩

abbrev nD : Nat := 1
abbrev τ : Topo := Topo.v7x

variable {F : FTy → Type} [FloatOps F]
-- ==== Proof.Copies.lean ====
/-
  THE SIXTEEN COPIES. The kernel's block ends with sixteen copies of one array in VMEM, the 512 × 32 × 32 position
  table, each into one batch entry of the result in HBM, all sixteen in flight at once on one DMA semaphore, followed by
  sixteen waits. This module proves what that part of the block does, once, for copy number `j`, and then for all of
  them by induction on how many are left:

  * `spread T` is the result array when every batch entry holds the table `T`;
  * each copy is lent one of sixteen shares of the table and its own batch entry of the result, and hands back that
    entry holding `T`;
  * after the sixteen waits the result holds `spread T`, the table is whole again and the semaphore's counter is zero.
-/
module

public import proofs.«01_k».proof.Proof.Gen.KernelIdeal.Frame
public import Idealize.ShloMosaic.Lib.Pipeline.FrameValue
public import Idealize.ShloMosaic.Lib.Batch
public import Idealize.ShloMosaic.Lib.Ring
public import Idealize.ShloMosaic.Lib.ValueLayout
public import Idealize.ShloMosaic.Lib.ValueIdxCoords

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The algebra of the proof: the pipeline's own, with counters for the copies in flight. -/
local notation "𝕄" => MT nD τ sig Unit (Elt F) ℕ (Pipeline.UD sig nD τ) ℕ

/-! ## The arrays, and the part of the result each copy writes -/

/-- The position table in VMEM. -/
abbrev tableRef : Memref sig .tc .vmem S512x32x32 .f32 := Memref.whole cc0_scratch0
/-- The result in HBM. -/
abbrev resultRef : Memref sig .tc .hbm S16x512x32x32 .f32 := Memref.whole main_v0

/-- Contents of the table's buffer on core `c`. -/
abbrev TableBuf (F : FTy → Type) (c : Dev nD) : Type := Buf (Elt F) (tableRef.view.loc (c : Thread nD τ))
/-- Contents of the result's buffer on core `c`. -/
abbrev ResultBuf (F : FTy → Type) (c : Dev nD) : Type := Buf (Elt F) (resultRef.view.loc (c : Thread nD τ))

/-- Batch entry `j` lies inside the result. -/
theorem entry_inb (j : Fin 16) : ∀ a, (![j.val, 0, 0, 0] : Fin 4 → Nat) a + S1x512x32x32.size a ≤ S16x512x32x32.size a := by
  revert j; decide

/-- Batch entry `j` of the result, as the kernel names it: the slice at `j` of the leading axis, that axis dropped. -/
abbrev entry (j : Fin 16) : Memref sig .tc .hbm S512x32x32 .f32 :=
  (resultRef.slice (Rect.unit (s := S16x512x32x32) ![j.val, 0, 0, 0] S1x512x32x32.size (entry_inb j)) (fun _ => rfl)).squeeze
    S512x32x32 squeezes_S1x512x32x32_S512x32x32

/-- Element `(p, y, x)` of entry `j` is element `(j, p, y, x)` of the result. -/
theorem entry_emb (j : Fin 16) (p : Fin 512) (y x : Fin 32) : (entry j).view.emb (ix3 p y x) = ix4 j p y x := by
  show (Rect.unit (s := S16x512x32x32) ![j.val, 0, 0, 0] S1x512x32x32.size (entry_inb j)).emb
    (Shape.reshapeEquiv squeezes_S1x512x32x32_S512x32x32.numel_eq (ix3 p y x)) = ix4 j p y x
  rw [reshapeEquiv_ix3_1abc]
  funext a
  apply Fin.ext
  rw [Rect.emb_apply]
  fin_cases a <;> simp [Rect.unit]

/-- An index of the table is three coordinates, -/
theorem table_idx (i : S512x32x32.Idx) : ∃ (p : Fin 512) (y x : Fin 32), i = ix3 p y x := ⟨i 0, i 1, i 2, eq_ix3 i⟩

/-- and an index of the result four. -/
theorem result_idx (i : S16x512x32x32.Idx) : ∃ (b : Fin 16) (p : Fin 512) (y x : Fin 32), i = ix4 b p y x :=
  ⟨i 0, i 1, i 2, i 3, eq_ix4 i⟩

/-- The elements of entry `j` are those whose leading coordinate is `j`. -/
theorem mem_entry {j : Fin 16} {i : S16x512x32x32.Idx} : i ∈ (entry j).view.set ↔ i 0 = j := by
  constructor
  · intro h
    obtain ⟨u, -, rfl⟩ := Finset.mem_map.mp h
    obtain ⟨p, y, x, rfl⟩ := table_idx u
    rw [entry_emb]
  · intro h
    obtain ⟨b, p, y, x, rfl⟩ := result_idx i
    obtain rfl : b = j := h
    rw [← entry_emb]
    exact (entry b).view.emb_mem_set _

/-- Two entries share no element, -/
theorem entry_disjoint (j j' : Fin 16) (h : j ≠ j') : Disjoint (entry j).view.set (entry j').view.set :=
  Finset.disjoint_left.mpr fun _ hi hi' => h ((mem_entry.mp hi).symm.trans (mem_entry.mp hi'))

/-- and together they are the whole result. -/
theorem entry_cover :
    (Finset.univ.biUnion fun j : Fin 16 => (entry j).view.set : Finset S16x512x32x32.Idx) = Finset.univ :=
  Finset.eq_univ_of_forall fun i => Finset.mem_biUnion.mpr ⟨i 0, Finset.mem_univ _, mem_entry.mpr rfl⟩

/-- The result with every batch entry the table `T`: element `(b, p, y, x)` is `T`'s element `(p, y, x)`. -/
def spread {c : Dev nD} (T : TableBuf F c) : ResultBuf F c := fun i => T (ix3 (i 1) (i 2) (i 3))

/-- Whatever the result held, once `T` is copied into entry `j` that entry is `spread T`'s. -/
theorem entry_copied {c : Dev nD} (j : Fin 16) (T : TableBuf F c) (r : ResultBuf F c) :
    ∀ i ∈ (entry j).view.set,
      (entry j).view.write (Elt F) r (ReadAs.same.apply (tableRef.view.read (Elt F) T)) Finset.univ i = spread T i := by
  intro i hi
  obtain ⟨u, -, rfl⟩ := Finset.mem_map.mp hi
  obtain ⟨p, y, x, rfl⟩ := table_idx u
  rw [View.write_emb_of_mem _ _ (Finset.mem_univ _), entry_emb]
  rfl

/-! ## What each copy is lent and hands back -/

/-- Copy `j`'s share of the table: the whole dealt among the sixteen copies. -/
abbrev copyShare (j : Fin 16) : PosShare TreeShare := Transfers.dealOf fullShare (Finset.univ : Finset (Fin 16)) j

/-- What copy `j` is lent: its share of the table, and its batch entry at whatever the result held. -/
def lent (c : Dev nD) (T : TableBuf F c) (r : ResultBuf F c) (j : Fin 16) : sProp 𝕄 :=
  iprop((tableRef.view.loc (c : Thread nD τ) ↦[tableRef.view.set]{copyShare j} T)
    ∗ ((entry j).view.loc (c : Thread nD τ) ↦[(entry j).view.set]{fullShare} r))

/-- What copy `j` hands back: its batch entry holding the table, and its share of the table. -/
def delivered (c : Dev nD) (T : TableBuf F c) (j : Fin 16) : sProp 𝕄 :=
  iprop(((entry j).view.loc (c : Thread nD τ) ↦[(entry j).view.set]{fullShare} spread T)
    ∗ (tableRef.view.loc (c : Thread nD τ) ↦[tableRef.view.set]{copyShare j} T))

instance delivered_storable (c : Dev nD) (T : TableBuf F c) (j : Fin 16) : Storable (upEmb : UEmb _ 𝕄) (delivered c T j) := by
  unfold delivered; infer_instance

/-- The table is its sixteen shares. -/
theorem table_shares (c : Dev nD) (T : TableBuf F c) :
    (tableRef.view.loc (c : Thread nD τ) ↦{fullShare} T : sProp 𝕄)
      = bigSep Finset.univ fun j : Fin 16 => tableRef.view.loc (c : Thread nD τ) ↦[tableRef.view.set]{copyShare j} T := by
  rw [View.set_whole]; exact Transfers.pointsTo_deal Finset.univ Finset.univ_nonempty fullShare

/-- The result is its sixteen entries. -/
theorem result_entries (c : Dev nD) (r : ResultBuf F c) :
    (resultRef.view.loc (c : Thread nD τ) ↦{fullShare} r : sProp 𝕄)
      = bigSep Finset.univ fun j : Fin 16 => (entry j).view.loc (c : Thread nD τ) ↦[(entry j).view.set]{fullShare} r :=
  Ring.pointsTo_blocks (ℓ := resultRef.view.loc (c : Thread nD τ)) (fun j : Fin 16 => (entry j).view.set) entry_disjoint
    (by rw [← entry_cover]) r

/-- The two arrays whole are what the sixteen copies are lent; -/
theorem lend (c : Dev nD) (T : TableBuf F c) (r : ResultBuf F c) :
    iprop((tableRef.view.loc (c : Thread nD τ) ↦{fullShare} T) ∗ (resultRef.view.loc (c : Thread nD τ) ↦{fullShare} r))
      ⊢ (bigSep Finset.univ (lent c T r) : sProp 𝕄) := by
  rw [table_shares, result_entries]; unfold lent
  exact Entails.of_eq (bigSep_sep _ _ _).symm

/-- what they hand back is the two arrays whole, the result at `spread T`. -/
theorem collected (c : Dev nD) (T : TableBuf F c) :
    (bigSep Finset.univ (delivered c T) : sProp 𝕄)
      ⊢ iprop((resultRef.view.loc (c : Thread nD τ) ↦{fullShare} spread T) ∗ (tableRef.view.loc (c : Thread nD τ) ↦{fullShare} T)) := by
  rw [table_shares, result_entries]; unfold delivered
  exact Entails.of_eq (bigSep_sep _ _ _)

/-! ## The copies and the waits as programs -/

/-- The semaphore all sixteen copies signal. -/
abbrev sem : DmaSem sig := cc0_scratch1.sem

/-- What one copy adds to the semaphore's counter: the same for every entry. -/
def credit : ℕ := (entry 0).view.dmaCredit

theorem credit_pos : 0 < credit := View.dmaCredit_pos _ (by decide)

/-- What core `c` runs in the kernel's block. -/
abbrev Block (F : FTy → Type) : Type 1 := Prog (TpuEff nD τ sig (Elt F) Λ₀ .tc) PUnit

/-- Start copy `j`, then run `p`. -/
def start (j : Fin 16) (p : Block F) : Block F :=
  .op (.enqueueDma tableRef (.here (entry j)) (.dma sem) (Memref.isWhole_whole cc0_scratch0).wordExact
    ((View.wordExact_bits rfl).reshape _ _) ⟨Or.inl rfl, trivial⟩) fun _ => p

/-- Wait for the amount of one copy, naming entry `j`, then run `p`. -/
def await (j : Fin 16) (p : Block F) : Block F :=
  .op (.waitDma2 sem tableRef (entry j) (Memref.isWhole_whole cc0_scratch0).wordExact
    ((View.wordExact_bits rfl).reshape _ _)) fun _ => p

/-- The copy to be started (or waited for) next when `n + 1` of the sixteen are left. -/
abbrev next (n : ℕ) : Fin 16 := ⟨15 - n, by omega⟩

/-- Start the last `n` copies in order, then run `p`. -/
def starts (p : Block F) : ℕ → Block F
  | 0 => p
  | n + 1 => start (next n) (starts p n)

/-- The last `n` waits in order, then `p`. -/
def awaits (p : Block F) : ℕ → Block F
  | 0 => p
  | n + 1 => await (next n) (awaits p n)

/-! ## What they do -/

/-- The counters the copies in flight are kept with. -/
abbrev EC : UEmb Counters 𝕄 := countersEmb (U := Pipeline.UD sig nD τ)

/-- The semaphore's copies: `j` of the sixteen started, `u` units waited for. -/
abbrev Flights (c : Dev nD) (T : TableBuf F c) (j u : ℕ) : sProp 𝕄 :=
  Transfers.Batch EC (c : Thread nD τ) (.dma sem) () credit (delivered c T) j u

variable (c : Dev nD) (T : TableBuf F c) (r : ResultBuf F c)

/-- Starting copy `j` takes what it is lent and counts it started. -/
theorem wp_start {Q : PUnit → sProp 𝕄} (j : Fin 16) (p : Block F) :
    iprop(lent c T r j ∗ Flights c T j 0)
      ⊢ iprop((Flights c T (j + 1) 0 -∗ wp frame (wpE (defs₀ (F := F)) Variants.none c none) Set.univ p Q)
          -∗ wp frame (wpE (defs₀ (F := F)) Variants.none c none) Set.univ (start j p) Q) := by
  unfold lent start
  iintro ⟨⟨Ht, Hr⟩, HB⟩ Hk
  iapply (Transfers.wp_dmaBatch EC Variants.none (c : Thread nD τ) none (n := 16) (D := delivered c T) (j := j) (u := 0)
    (src := tableRef) (dst := entry j) (via := ReadAs.same) (sm := .dma sem) (q := copyShare j) (fs := T) (fd := r)
    (Sd := (entry j).view.set) (k := fun _ => p) () credit rfl (Finset.Subset.refl _) j.isLt (Nat.zero_le _)
    (Entails.of_eq (by unfold delivered; rw [pointsTo_congr (entry_copied j T r)]))) $$ [Ht Hr HB]
  · isplitl [Ht]; · iexact Ht
    isplitl [Hr]; · iexact Hr
    iexact HB
  iexact Hk

/-- Starting the last `n` copies takes what they are lent and counts all sixteen started. -/
theorem wp_starts {Q : PUnit → sProp 𝕄} (p : Block F) : ∀ n, n ≤ 16 →
    (iprop(bigSep (Transfers.pending (16 - n)) (lent c T r) ∗ Flights c T (16 - n) 0)
      ⊢ iprop((Flights c T 16 0 -∗ wp frame (wpE (defs₀ (F := F)) Variants.none c none) Set.univ p Q)
          -∗ wp frame (wpE (defs₀ (F := F)) Variants.none c none) Set.univ (starts p n) Q))
  | 0, _ => by
    iintro ⟨-, HB⟩ Hk
    iapply Hk; iexact HB
  | n + 1, hn => by
    have h : 16 - (n + 1) = 15 - n := by omega
    have h' : 15 - n + 1 = 16 - n := by omega
    rw [h, Transfers.bigSep_pending_step (lent c T r) (15 - n) (by omega), h']
    iintro ⟨⟨Hl, Hrest⟩, HB⟩ Hk
    unfold starts
    iapply (wp_start c T r (next n) (starts p n)) $$ [Hl HB]
    · isplitl [Hl]; · iexact Hl
      iexact HB
    rw [h']
    iintro HB
    iapply (wp_starts p n (by omega)) $$ [Hrest HB]
    · isplitl [Hrest]; · iexact Hrest
      iexact HB
    iexact Hk

/-- A wait counts one copy's amount as waited for. -/
theorem wp_await {Q : PUnit → sProp 𝕄} (j : Fin 16) (p : Block F) (u : ℕ) (hu : u + 1 * credit ≤ credit * 16) (W : Waits sig Unit) :
    iprop(Flights c T 16 u ∗ owes (c : Thread nD τ) 0 W)
      ⊢ iprop((iprop(Flights c T 16 (u + 1 * credit) ∗ owes (c : Thread nD τ) 0 (insert (SemLoc.dma sem, ()) W))
            -∗ wp frame (wpE (defs₀ (F := F)) Variants.none c none) Set.univ p Q)
          -∗ wp frame (wpE (defs₀ (F := F)) Variants.none c none) Set.univ (await j p) Q) :=
  Transfers.wp_waitBatchMul EC Variants.none (c : Thread nD τ) none (n := 16) (D := delivered c T) (srcw := tableRef) (dstw := entry j)
    (k := fun _ => p) () 1 (show (entry j).view.dmaCredit = 1 * credit from (Nat.one_mul _).symm) hu

/-- After the last `n` waits every copy's amount has been waited for. -/
theorem wp_awaits {Q : PUnit → sProp 𝕄} (p : Block F) : ∀ n, n ≤ 16 → ∀ W : Waits sig Unit,
    (iprop(Flights c T 16 (credit * (16 - n)) ∗ owes (c : Thread nD τ) 0 W)
      ⊢ iprop((iprop(∃ W', Flights c T 16 (credit * 16) ∗ owes (c : Thread nD τ) 0 W')
            -∗ wp frame (wpE (defs₀ (F := F)) Variants.none c none) Set.univ p Q)
          -∗ wp frame (wpE (defs₀ (F := F)) Variants.none c none) Set.univ (awaits p n) Q))
  | 0, _, W => by
    iintro ⟨HB, HW⟩ Hk
    iapply Hk; iexists W
    isplitl [HB]; · iexact HB
    iexact HW
  | n + 1, hn, W => by
    have h : credit * (16 - (n + 1)) + 1 * credit = credit * (16 - n) := by
      rw [Nat.one_mul, ← Nat.mul_succ]; congr 1; omega
    iintro HB Hk
    unfold awaits
    iapply (wp_await c T (next n) (awaits p n) (credit * (16 - (n + 1))) (h ▸ Nat.mul_le_mul_left _ (Nat.sub_le _ _)) W) $$ HB
    rw [h]
    iintro HB
    iapply (wp_awaits p n (by omega) _) $$ HB
    iexact Hk

/-- The sixteen copies and the sixteen waits: from the table whole at `T`, the result whole at anything and the
    semaphore at zero, to the table as it was, the result at `spread T` and the semaphore at zero. -/
theorem wp_copies {Q : PUnit → sProp 𝕄} (p : Block F) (W : Waits sig Unit) :
    iprop((tableRef.view.loc (c : Thread nD τ) ↦{fullShare} T) ∗ (resultRef.view.loc (c : Thread nD τ) ↦{fullShare} r)
        ∗ semVal ((c : Thread nD τ), SemLoc.dma sem) 0 ∗ owes (c : Thread nD τ) 0 W : sProp 𝕄)
      ⊢ iprop((iprop((tableRef.view.loc (c : Thread nD τ) ↦{fullShare} T) ∗ (resultRef.view.loc (c : Thread nD τ) ↦{fullShare} spread T)
            ∗ semVal ((c : Thread nD τ), SemLoc.dma sem) 0 ∗ ∃ W', owes (c : Thread nD τ) 0 W')
            -∗ wp frame (wpE (defs₀ (F := F)) Variants.none c none) Set.univ p Q)
          -∗ wp frame (wpE (defs₀ (F := F)) Variants.none c none) Set.univ (starts (awaits p 16) 16) Q) := by
  iintro ⟨Ht, Hr, Hs, HW⟩ Hk
  imod (Transfers.batch_alloc' (Lvl := ℕ) EC (c : Thread nD τ) () credit (delivered c T) (sm := .dma sem) (E := Set.univ)) $$ Hs with HB
  iapply (wp_starts c T r (awaits p 16) 16 le_rfl) $$ [Ht Hr HB]
  · rw [Nat.sub_self, Transfers.pending_zero]
    isplitl [Ht Hr]
    · iapply (lend c T r)
      isplitl [Ht]; · iexact Ht
      iexact Hr
    iexact HB
  iintro HB
  iapply (wp_awaits c T p 16 le_rfl W) $$ [HB HW]
  · rw [Nat.sub_self, Nat.mul_zero]
    isplitl [HB]; · iexact HB
    iexact HW
  iintro ⟨%W', HB, HW⟩
  imod (Transfers.batch_collect' (Lvl := ℕ) EC (c : Thread nD τ) credit_pos (D := delivered c T)) $$ HB with ⟨HD, Hs⟩
  ihave H := (collected c T) $$ HD
  icases H with ⟨Hr, Ht⟩
  iapply Hk
  isplitl [Ht]; · iexact Ht
  isplitl [Hr]; · iexact Hr
  isplitl [Hs]; · iexact Hs
  iexists W'; iexact HW

end Cert.KernelIdeal.Hand

end
-- ==== Proof.Table.lean ====
/-
  THE POSITION TABLE. Before its copies the kernel's block fills the 512 × 32 × 32 table in VMEM: it loads the first 32
  rows of the two embedding tables, transposes each, and stores one in channels 0–255, repeated along the rows of the
  grid, and the other in channels 256–511, repeated along its columns. This module says what the table then holds,
  whatever it held before: at channel `p`, row `y` and column `x`,

      column embedding `x` at `p`          for p < 256,
      row embedding `y` at `p − 256`       for p ≥ 256.
-/
module

public import proofs.«01_k».proof.Proof.Copies
public import proofs.«01_k».proof.Proof.Gen.KernelIdeal.Skeleton
public import Idealize.ShloMosaic.Lib.Writes
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F]

/-- The position table of a row embedding and a column embedding. -/
def table (row col : Vec F S50x256 .f32) : Vec F S512x32x32 .f32 := fun i =>
  if h : (i 0).val < 256 then col (ix2 (⟨(i 2).val, by have : (i 2).val < 32 := (i 2).isLt; omega⟩ : Fin 50) (⟨(i 0).val, h⟩ : Fin 256))
  else row (ix2 (⟨(i 1).val, by have : (i 1).val < 32 := (i 1).isLt; omega⟩ : Fin 50)
    (⟨(i 0).val - 256, by have : (i 0).val < 512 := (i 0).isLt; omega⟩ : Fin 256))

/-- The first 32 of the 50 rows. -/
abbrev rowsRect : Rect S50x256 := Rect.unit (s := S50x256) ![0, 0] S32x256.size Gen.inb_S50x256_S32x256_0_0
/-- Channels 0–255 of the table. -/
abbrev lowRect : Rect S512x32x32 := Rect.unit (s := S512x32x32) ![0, 0, 0] S256x32x32.size Gen.inb_S512x32x32_S256x32x32_0_0_0
/-- Channels 256–511 of the table. -/
abbrev highRect : Rect S512x32x32 := Rect.unit (s := S512x32x32) ![256, 0, 0] S256x32x32.size Gen.inb_S512x32x32_S256x32x32_256_0_0

/-- An embedding's first 32 rows. -/
def firstRows (X : Vec F S50x256 .f32) : Vec F S32x256 .f32 := fun i => X (rowsRect.emb i)

theorem firstRows_apply (X : Vec F S50x256 .f32) (x : Fin 32) (p : Fin 256) :
    firstRows X (ix2 x p) = X (ix2 (⟨x.val, by omega⟩ : Fin 50) p) := by
  unfold firstRows
  congr 1
  funext a
  apply Fin.ext
  rw [Rect.emb_apply]
  fin_cases a <;> simp [Rect.unit]

/-- What is stored in channels 0–255: at channel `p`, row `y` and column `x`, row `x` of the loaded block at `p`. -/
theorem lowStored_apply (v : Vec F S32x256 .f32) (p : Fin 256) (y x : Fin 32) : k0_pay1 v (ix3 p y x) = v (ix2 x p) := by
  unfold k0_pay1
  dsimp only
  rw [shapeCast_self, shapeCast_self]
  refine (broadcastTo_apply (s := S256x1x32) (t := S256x32x32) _ _ (ix3 p y x) (ix3 p (0 : Fin 1) x) fun a => by fin_cases a <;> rfl).trans ?_
  refine (shapeCast_apply (s := S256x32) (t := S256x1x32) _ _ (ix3 p (0 : Fin 1) x) (ix2 p x) ?_).trans (transpose_ix2_apply _ _ p x)
  rw [Shape.rowMajor_val_two, Shape.rowMajor_val_three]
  show p.val * 32 + x.val = (p.val * 1 + 0) * 32 + x.val
  rw [Nat.mul_one, Nat.add_zero]

/-- What is stored in channels 256–511: at channel `256 + p`, row `y` and column `x`, row `y` of the loaded block at `p`. -/
theorem highStored_apply (v : Vec F S32x256 .f32) (p : Fin 256) (y x : Fin 32) : k0_pay2 v (ix3 p y x) = v (ix2 y p) := by
  unfold k0_pay2
  dsimp only
  rw [shapeCast_self, shapeCast_self]
  refine (broadcastTo_apply (s := S256x32x1) (t := S256x32x32) _ _ (ix3 p y x) (ix3 p y (0 : Fin 1)) fun a => by fin_cases a <;> rfl).trans ?_
  refine (shapeCast_apply (s := S256x32) (t := S256x32x1) _ _ (ix3 p y (0 : Fin 1)) (ix2 p y) ?_).trans (transpose_ix2_apply _ _ p y)
  rw [Shape.rowMajor_val_two, Shape.rowMajor_val_three]
  show p.val * 32 + y.val = (p.val * 32 + y.val) * 1 + 0
  rw [Nat.mul_one, Nat.add_zero]

/-- After the two stores the table's buffer holds `table row col`, whatever it held before. -/
theorem stored (c : Dev nD) (f : TableBuf F c) (row col : Vec F S50x256 .f32) :
    tableRef.view.writes (Elt F) f [⟨highRect, k0_pay2 (firstRows row)⟩, ⟨lowRect, k0_pay1 (firstRows col)⟩] = table row col := by
  rw [← View.read_whole (Val := Elt F) cc0_scratch0 (tableRef.view.writes (Elt F) f _)]
  refine funext fun (i : S512x32x32.Idx) => ?_
  obtain ⟨p, y, x, rfl⟩ := table_idx i
  by_cases h : p.val < 256
  · rw [View.read_writes_cons_miss_of_axis _ _ _ _ _ 0 256 256 rfl rfl rfl (Or.inl h),
      View.read_writes_cons_hit_of_coords _ _ _ _ _ (ix3 (⟨p.val, h⟩ : Fin 256) y x) _ (fun a => by fin_cases a <;> simp [Rect.unit]),
      lowStored_apply, firstRows_apply]
    unfold table
    rw [dif_pos (show ((ix3 p y x : S512x32x32.Idx) 0).val < 256 from h)]
  · rw [View.read_writes_cons_hit_of_coords _ _ _ _ _ (ix3 (⟨p.val - 256, by omega⟩ : Fin 256) y x) _
        (fun a => match a with
          | ⟨0, _⟩ => show p.val = 256 + 1 * (p.val - 256) by omega
          | ⟨1, _⟩ => show y.val = 0 + 1 * y.val by omega
          | ⟨2, _⟩ => show x.val = 0 + 1 * x.val by omega),
      highStored_apply, firstRows_apply]
    unfold table
    rw [dif_neg (show ¬((ix3 p y x : S512x32x32.Idx) 0).val < 256 from h)]

end Cert.KernelIdeal.Hand

end
-- ==== Proof.Block.lean ====
/-
  ONE BLOCK. The kernel's launch has one grid point, so its body runs once: it fills the position table from the two
  embeddings' staging buffers, then copies the table into every batch entry of the result. From the two embeddings at
  `row` and `col`, the table and the result at anything and the copies' semaphore at zero, it leaves the embeddings as
  they were, the table at `table row col`, the result at that table in every batch entry and the semaphore at zero.
-/
module

public import proofs.«01_k».proof.Proof.Table

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The loads and stores that fill the table, then `p`. -/
def fill (arg0 arg1 : Memref sig .tc .vmem S50x256 .f32) (p : Block F) : Block F :=
  .op (.load arg1 rowsRect.toLoadRect (View.loadsAt_vmem Gen.h_S32x256)) fun (v0 : Vec F S32x256 .f32) =>
  .op (.load arg0 rowsRect.toLoadRect (View.loadsAt_vmem Gen.h_S32x256)) fun (v2 : Vec F S32x256 .f32) =>
  .op (.load tableRef lowRect.toLoadRect (View.loadsAt_vmem Gen.h_S256x32x32)) fun _ =>
  .op (.store tableRef lowRect (k0_pay1 v0) Finset.univ (View.stores_vmem_bits_univ Gen.h_S256x32x32 rfl) (.inl rfl)) fun _ =>
  .op (.load tableRef highRect.toLoadRect (View.loadsAt_vmem Gen.h_S256x32x32)) fun _ =>
  .op (.store tableRef highRect (k0_pay2 v2) Finset.univ (View.stores_vmem_bits_univ Gen.h_S256x32x32 rfl) (.inl rfl)) fun _ => p

/-- The kernel's block is the filling, the sixteen copies and the sixteen waits. -/
theorem body_eq (arg0 : Memref sig .tc .vmem S50x256 .f32) (h0 : arg0.IsWhole) (arg1 : Memref sig .tc .vmem S50x256 .f32) (h1 : arg1.IsWhole) :
    cc0__pos_body (F := F) arg0 h0 arg1 h1 resultRef (Memref.isWhole_whole _) tableRef (Memref.isWhole_whole _) cc0_scratch1
      = fill arg0 arg1 (starts (awaits (.ret ⟨⟩) 16) 16) := by
  rfl

/-- Filling the table: the two embeddings are only read, and the table ends at `table row col`. -/
theorem wp_fill (c : Dev nD) (arg0 arg1 : Memref sig .tc .vmem S50x256 .f32) (row col : Vec F S50x256 .f32) (f : TableBuf F c)
    (p : Block F) {Q : PUnit → sProp 𝕄} :
    iprop(owns (c : Thread nD τ) arg0 fullShare row ∗ owns (c : Thread nD τ) arg1 fullShare col
        ∗ (tableRef.view.loc (c : Thread nD τ) ↦{fullShare} f) : sProp 𝕄)
      ⊢ iprop((iprop(owns (c : Thread nD τ) arg0 fullShare row ∗ owns (c : Thread nD τ) arg1 fullShare col
            ∗ (tableRef.view.loc (c : Thread nD τ) ↦{fullShare} table row col))
            -∗ wp frame (wpE (defs₀ (F := F)) Variants.none c none) Set.univ p Q)
          -∗ wp frame (wpE (defs₀ (F := F)) Variants.none c none) Set.univ (fill arg0 arg1 p) Q) := by
  unfold fill owns
  iintro ⟨⟨%f0, %h0, H0⟩, ⟨%f1, %h1, H1⟩, Ht⟩ Hk
  iapply (wp_load_rect Variants.none (c : Thread nD τ) none Set.univ (m := arg1) (r := rowsRect) (View.set_slice_subset _ _)) $$ H1
  iintro H1
  iapply (wp_load_rect Variants.none (c : Thread nD τ) none Set.univ (m := arg0) (r := rowsRect) (View.set_slice_subset _ _)) $$ H0
  iintro H0
  iapply (wp_load_rect Variants.none (c : Thread nD τ) none Set.univ (m := tableRef) (r := lowRect) (Finset.subset_univ _)) $$ Ht
  iintro Ht
  iapply (wp_store_writes₀ Variants.none (c : Thread nD τ) none Set.univ (m := tableRef) (r := lowRect) (Finset.subset_univ _)) $$ Ht
  iintro Ht
  iapply (wp_load_rect Variants.none (c : Thread nD τ) none Set.univ (m := tableRef) (r := highRect) (Finset.subset_univ _)) $$ Ht
  iintro Ht
  iapply (wp_store_writes Variants.none (c : Thread nD τ) none Set.univ (m := tableRef) (r := highRect) (Finset.subset_univ _)) $$ Ht
  iintro Ht
  rw [show (arg1.access rowsRect).read (Elt F) f1 = firstRows col from by rw [← h1]; rfl,
    show (arg0.access rowsRect).read (Elt F) f0 = firstRows row from by rw [← h0]; rfl, stored]
  iapply Hk
  isplitl [H0]
  · iexists f0; isplitr; · ipureintro; exact h0
    iexact H0
  isplitl [H1]
  · iexists f1; isplitr; · ipureintro; exact h1
    iexact H1
  iexact Ht

/-- The whole block. -/
theorem wp_block (c : Dev nD) (arg0 : Memref sig .tc .vmem S50x256 .f32) (h0 : arg0.IsWhole) (arg1 : Memref sig .tc .vmem S50x256 .f32)
    (h1 : arg1.IsWhole) (row col : Vec F S50x256 .f32) (f : TableBuf F c) (r : ResultBuf F c) (W : Waits sig Unit) {K : PUnit → sProp 𝕄} :
    iprop(owns (c : Thread nD τ) arg0 fullShare row ∗ owns (c : Thread nD τ) arg1 fullShare col
        ∗ (tableRef.view.loc (c : Thread nD τ) ↦{fullShare} f) ∗ (resultRef.view.loc (c : Thread nD τ) ↦{fullShare} r)
        ∗ semVal ((c : Thread nD τ), SemLoc.dma sem) 0 ∗ owes (c : Thread nD τ) 0 W : sProp 𝕄)
      ⊢ iprop((iprop(owns (c : Thread nD τ) arg0 fullShare row ∗ owns (c : Thread nD τ) arg1 fullShare col
            ∗ (tableRef.view.loc (c : Thread nD τ) ↦{fullShare} table row col)
            ∗ (resultRef.view.loc (c : Thread nD τ) ↦{fullShare} spread (table row col))
            ∗ semVal ((c : Thread nD τ), SemLoc.dma sem) 0 ∗ ∃ W', owes (c : Thread nD τ) 0 W') -∗ K ⟨⟩)
          -∗ wp frame (wpE (defs₀ (F := F)) Variants.none c none) Set.univ
            (cc0__pos_body arg0 h0 arg1 h1 resultRef (Memref.isWhole_whole _) tableRef (Memref.isWhole_whole _) cc0_scratch1) K) := by
  rw [body_eq]
  iintro ⟨H0, H1, Ht, Hr, Hs, HW⟩ Hk
  iapply (wp_fill c arg0 arg1 row col f _) $$ [H0 H1 Ht]
  · isplitl [H0]; · iexact H0
    isplitl [H1]; · iexact H1
    iexact Ht
  iintro ⟨H0, H1, Ht⟩
  iapply (wp_copies c (table row col) r (.ret ⟨⟩) W) $$ [Ht Hr Hs HW]
  · isplitl [Ht]; · iexact Ht
    isplitl [Hr]; · iexact Hr
    isplitl [Hs]; · iexact Hs
    iexact HW
  iintro ⟨Ht, Hr, Hs, HW⟩
  rw [wp_ret]
  imodintro
  iapply Hk
  isplitl [H0]; · iexact H0
  isplitl [H1]; · iexact H1
  isplitl [Ht]; · iexact Ht
  isplitl [Hr]; · iexact Hr
  isplitl [Hs]; · iexact Hs
  iexact HW

end Cert.KernelIdeal.Hand

end
-- ==== Proof.Launch.lean ====
/-
  THE LAUNCH. The kernel's one region stages the two embeddings whole, runs the block once, and leaves the result in HBM
  for the block's own copies to write. This module carries `wp_block` through that launch to the program's run: it
  terminates from every memory and every generator state, the three arguments are unchanged, every semaphore counter is
  back at zero, and the result on every core holds the position table of that core's two embeddings in every batch entry.
-/
module

public import proofs.«01_k».proof.Proof.Block

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result holds at the end -/

/-- The row embedding on core `c`. -/
abbrev rowOf (c : Dev nD) : Vec F S50x256 .f32 := m ((c : Thread nD τ).loc main_arg1)
/-- The column embedding on core `c`. -/
abbrev colOf (c : Dev nD) : Vec F S50x256 .f32 := m ((c : Thread nD τ).loc main_arg2)

/-- The result on core `c`: its position table in every batch entry. -/
def resultOf (c : Dev nD) : ResultBuf F c := spread (c := c) (table (rowOf m c) (colOf m c))

/-- Every buffer of core `c` as launched, but the result at `resultOf`. -/
def final (c : Dev nD) : (b : Ref sig .tc) → Buf (Elt F) ((c : Thread nD τ).loc b) :=
  Function.update (Gen.V m c) main_v0 (resultOf m c)

theorem final_result (c : Dev nD) : final m c main_v0 = resultOf m c := Function.update_self _ _ _

/-! ## The windows -/

/-- A window's block starts at the origin, so it places each index at itself: the row embedding's, -/
theorem place_row (t : Fin cfg0.N) (j : S50x256.Idx) : ((cfg0.win 0).blk t).view.emb j = j := by
  funext a; apply Fin.ext
  match a with
  | ⟨0, _⟩ => show 0 * 50 + 1 * (j 0).val = (j 0).val; omega
  | ⟨1, _⟩ => show 0 * 256 + 1 * (j 1).val = (j 1).val; omega

/-- and the column embedding's. -/
theorem place_col (t : Fin cfg0.N) (j : S50x256.Idx) : ((cfg0.win 1).blk t).view.emb j = j := place_row t j

/-- So the staged block of the row embedding is the embedding, -/
theorem block_row (c : Dev nD) (t : Fin cfg0.N) : iblk m c 0 t = rowOf m c := by
  funext j; show rowOf m c (((cfg0.win 0).blk t).view.emb j) = rowOf m c j; rw [place_row]

/-- and the staged block of the column embedding that embedding. -/
theorem block_col (c : Dev nD) (t : Fin cfg0.N) : iblk m c 1 t = colOf m c := by
  funext j; show colOf m c (((cfg0.win 1).blk t).view.emb j) = colOf m c j; rw [place_col]

/-! ## What the launch deals the block -/

/-- The one buffer the block writes itself: the result. -/
def R0 : Finset (Ref sig .tc) := {main_v0}
/-- The block's copies read no buffer in HBM. -/
def H0 : Finset (Ref sig .tc) := ∅
theorem H0_sub : H0 ⊆ Pipeline.restRefs sig spec0 := Finset.empty_subset _
theorem R0_sub : R0 ⊆ Pipeline.restRefs sig spec0 \ H0 := by decide

/-- The block's one semaphore. -/
abbrev osem0 : Fin 1 → SemLoc sig := fun _ => SemLoc.dma sem
theorem ownSemFacts0 : Pipeline.OwnSemFacts spec0 osem0 := by decide
theorem ownSems0_one (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma sem) 0 := by
  rw [Pipeline.ownSems0_eq_of_list c osem0 [0] (by decide) (by decide)]; rfl

/-- The buffers the block writes, at contents `G`: the result at `G`'s. -/
theorem routed_one (c : Dev nD) (G : (b : Ref sig .tc) → Buf (Elt F) ((c : Thread nD τ).loc b)) :
    (Pipeline.routed R0 c G : sProp 𝕄)
      = (resultRef.view.loc (c : Thread nD τ) ↦{fullShare} G main_v0) := by
  unfold Pipeline.routed R0
  exact BI.bigSep_singleton

/-- Everything the block holds between launch and finish besides its windows, the result at `G`'s contents. -/
theorem held_eq (c : Dev nD) (G : (c : Dev nD) → (b : Ref sig .tc) → Buf (Elt F) ((c : Thread nD τ).loc b)) :
    (Pipeline.ΦDRG osem0 spec0 H0 R0 (Gen.V m) G c : sProp 𝕄)
      = iprop((∃ f, tableRef.view.loc (c : Thread nD τ) ↦{fullShare} f) ∗ (∃ r, prngReg c r)
          ∗ semVal ((c : Thread nD τ), SemLoc.dma sem) 0 ∗ BI.emp
          ∗ (resultRef.view.loc (c : Thread nD τ) ↦{fullShare} G c main_v0)) := by
  rw [Pipeline.ΦDRG_eq, ownSems0_one, routed_one]
  unfold H0
  rw [BI.bigSep_empty, scopedRest0_eq]

/-- The region's proof data on core `c`: the arrays as launched, the two embeddings' staging buffers unchanged by the
    block, the result as launched before the one point and at `final` after it. -/
def dats (_ : Fin 1) (c : Dev nD) : Dat τ (Elt F) Unit ℕ (Pipeline.UD sig nD τ) ℕ cfg0 c where
  A w := Gen.V m c (Pipeline.arrRef spec0 w)
  after w _ := match w with
    | ⟨0, _⟩ => rowOf m c
    | ⟨1, _⟩ => colOf m c
  Φ k := Pipeline.ΦDRG osem0 spec0 H0 R0 (Gen.V m) (if k.val = 0 then Gen.V m else final m) c
  q _ := fullShare
  owed _ := 0

theorem A_eq (c : Dev nD) (w : Fin cfg0.W) : (dats m 0 c).A w = Gen.V m c (Pipeline.arrRef spec0 w) := by
  dsimp only [dats]

theorem after_row (c : Dev nD) (t : Fin cfg0.N) : (dats m 0 c).after 0 t = rowOf m c := by dsimp only [dats]
theorem after_col (c : Dev nD) (t : Fin cfg0.N) : (dats m 0 c).after 1 t = colOf m c := by dsimp only [dats]

/-- Before the block each embedding's staging buffer holds its embedding. -/
theorem before_row (c : Dev nD) (t : Fin cfg0.N) (d) : (dats m 0 c).before 0 t d = rowOf m c :=
  ((dats m 0 c).before_in_eq_fetched 0 rfl (fun _ => rfl) (fun _ _ _ => rfl)
    (fun t => by rw [after_row, ← block_row m c t]; unfold Dat.blockOf iblk; rw [A_eq]) t d).trans
    (by rw [← block_row m c t]; unfold Dat.fetched Dat.blockOf iblk; rw [A_eq]; rfl)

theorem before_col (c : Dev nD) (t : Fin cfg0.N) (d) : (dats m 0 c).before 1 t d = colOf m c :=
  ((dats m 0 c).before_in_eq_fetched 1 rfl (fun _ => rfl) (fun _ _ _ => rfl)
    (fun t => by rw [after_col, ← block_col m c t]; unfold Dat.blockOf iblk; rw [A_eq]) t d).trans
    (by rw [← block_col m c t]; unfold Dat.fetched Dat.blockOf iblk; rw [A_eq]; rfl)

/-- What is held before the block, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
/-- and after it. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

theorem before_point (c : Dev nD) : (dats m 0 c).Φ t0_0.castSucc = Pipeline.ΦDRG osem0 spec0 H0 R0 (Gen.V m) (Gen.V m) c := rfl
theorem after_point (c : Dev nD) : (dats m 0 c).Φ t0_0.succ = Pipeline.ΦDRG osem0 spec0 H0 R0 (Gen.V m) (final m) c := rfl

/-- The block at the launch's one point. -/
theorem sound_body (c : Dev nD) (t : Fin cfg0.N) :
    bodyPre m c t ⊢ wp frame (wpE (defs₀ (F := F)) Variants.none c none) Set.univ (bodyAt0 t) (fun _ => bodyPost m c t) := by
  rw [fin_N0 t]
  unfold bodyPre bodyPost bodyAt0
  rw [before_point, after_point, held_eq, held_eq, final_result, after_row, after_col]
  simp only [before_row, before_col]
  unfold Dat.owesAt Pipeline.owesWithin
  rw [show (dats m 0 c).owed t0_0.castSucc = 0 from rfl, show (dats m 0 c).owed t0_0.succ = 0 from rfl]
  iintro ⟨⟨⟨%f, Ht⟩, Hg, Hs, He, Hr⟩, ⟨%W, -, HW⟩, ⟨%d0, H0⟩, ⟨%d1, H1⟩⟩
  iapply (wp_block c _ (hstage0_0 0) _ (hstage0_1 0) (rowOf m c) (colOf m c) f _ W) $$ [H0 H1 Ht Hr Hs HW]
  · isplitl [H0]; · iexact H0
    isplitl [H1]; · iexact H1
    isplitl [Ht]; · iexact Ht
    isplitl [Hr]; · iexact Hr
    isplitl [Hs]; · iexact Hs
    iexact HW
  iintro ⟨H0, H1, Ht, Hr, Hs, ⟨%W', HW'⟩⟩
  isplitl [Ht Hg Hs He Hr]
  · isplitl [Ht]; · iexists _; iexact Ht
    isplitl [Hg]; · iexact Hg
    isplitl [Hs]; · iexact Hs
    isplitl [He]; · iexact He
    iexact Hr
  isplitl [HW']
  · iexists W'; isplitr; · ipureintro; exact fun _ _ => Or.inl trivial
    iexact HW'
  isplitl [H0]; · iexact H0
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmain (𝒱₀ : Variants) :
    Pipeline.HMain (Ix := Unit) (Name := ℕ) (U := Pipeline.UD sig nD τ) (Lvl := ℕ) cfgs 0 defs₀ 𝒱₀ m (main (F := F)) (Gen.V m) :=
  Pipeline.hmain_region cfgs 0 defs₀ 𝒱₀ m main fun c => (main_chain c).trans rfl

set_option backward.isDefEq.respectTransparency.types false in
theorem run_main : θ_run defs (onTc (τ := τ) (main (F := F))) (s₀ m ρ)
    (fun r => Pipeline.FramePostRG cfgs (dats m) 0 R0 (Gen.V m) (final m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := Gen.V m) (hmain := hmain m Variants.none) (hA := A_eq m) (G := final m)
    (hin := fun _ => .rfl) (hout := fun _ => .rfl)

/-- THE RUN: on every core the result is `resultOf`, the three arguments are unchanged, and every semaphore's counter is zero. -/
theorem run : θ_run defs (onTc (τ := τ) (main (F := F))) ⟨m, fun _ => 0, ρ⟩ (fun r => (∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.written c (by decide)).trans (final_result m c),
      (h.1.toR c).2 main_arg0 (Finset.mem_sdiff.mpr ⟨Pipeline.mem_restRefs_of main_arg0 (by decide) (by decide), by decide⟩),
      ((h.1.toR c).1 0).trans (((dats m 0 c).arrAt_in 0 rfl _).trans ((A_eq m c 0).trans rfl)),
      ((h.1.toR c).1 1).trans (((dats m 0 c).arrAt_in 1 rfl _).trans ((A_eq m c 1).trans rfl))⟩, h.2⟩) (run_main m ρ)

end Cert.KernelIdeal.Hand

end
-- ==== Proof.Words.lean ====
/-
  THE KERNEL AS IT IS. The idealized kernel is the kernel's own program, no operation of it replaced; and its run was
  proved for any reading of the floats. So what that run says of the idealized kernel it says of the kernel itself, at
  the machine's words.
-/
module

public import proofs.«01_k».proof.Defs
public import proofs.«01_k».proof.Proof.Launch
public import proofs.«01_k».proof.Proof.Gen.Kernel.Frame
public import Idealize.ShloMosaic.Adequacy
public import Idealize.ShloMosaic.Init

@[expose] public section

noncomputable section

namespace Cert.Proof

open Idealize.ShloMosaic Idealize.ShloMosaic.TcCoe Idealize.SL.Sem

variable (F : FTy → Type) [FloatOps F]

/-- The idealized kernel's frame: it ends without fault, its arguments unchanged and every semaphore's counter zero. -/
def FrameIdealized : Prop :=
  ∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0)

/-- The kernel's frame, likewise. -/
def FrameKernel : Prop :=
  ∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
        ∧ r.2.sem = fun _ => 0)

/-- The two programs being the same, so are the two statements. -/
theorem frame_eq : FrameIdealized F = FrameKernel F := by chain_rfl

theorem frame_idealized : FrameIdealized F := fun m ρ =>
  (θ_run Cert.KernelIdeal.defs _ _).mono (fun _ h => ⟨fun c => (h.1 c).2, h.2⟩) (Cert.KernelIdeal.Hand.run m ρ)

theorem frame_kernel : FrameKernel F := (frame_eq F).mp (frame_idealized F)

end Cert.Proof

end
-- ==== Proof.Rows.lean ====
/-
  THE ROWS THE REFERENCE TAKES. The reference reads an embedding with `take(embed, arange(32))`. Written out, that is:
  the positions 0 … 31, each raised by 50 if it is negative; a mask that says which positions are between 0 and 49; a
  gather of the rows at those positions; and NaN wherever the mask is off. None of the 32 positions is negative or above
  49, so the mask is on everywhere and what is taken is the embedding's first 32 rows.
-/
module

public import proofs.«01_k».proof.Proof.Gen.ReferenceIdeal
public import Idealize.ShloMosaic.Lib.ReduceAll
public import Idealize.ShloMosaic.Lib.Routing.Ops
public import Idealize.ShloMosaic.Lib.Pipeline.Value
public import Idealize.ShloMosaic.Lib.ValueIdxCoords

@[expose] public section

noncomputable section

namespace Cert.ReferenceIdeal.Hand

open Cert.ReferenceIdeal Cert.ReferenceIdeal.Gen
open Idealize.ShloMosaic Idealize.ShloMosaic.ValueIdx

variable {F : FTy → Type} [FloatOps F]

/-- The positions to take: 0 … 31, with 50 added to the negative ones, as one column. -/
def positions : IVec S32x1 32 :=
  broadcastInDim S32x1 ![0] bcast_S32_S32x1_0
    (select (cmpi .slt (iotaInDim S32 32 0) (broadcastInDim S32 ![] bcast_S_S32 (constantI S_ 32 0#32)))
      (addi (iotaInDim S32 32 0) (broadcastInDim S32 ![] bcast_S_S32 (constantI S_ 32 50#32))) (iotaInDim S32 32 0))

/-- Which positions name a row: those from 0 to 49. -/
def inTable : IVec S32 1 :=
  Host.reduce IntOp.andi
    (andi (cmpi .sge positions (broadcastInDim S32x1 ![] bcast_S_S32x1 (constantI S_ 32 0#32)))
      (cmpi .sle positions (broadcastInDim S32x1 ![0, 1] bcast_S1x1_S32x1_0_1 (broadcastInDim S1x1 ![1] bcast_S1_S1x1_1 (constantI S1 32 49#32)))))
    (constantI S_ 1 1#1) reducesTo_S32x1_S32_d1 h_S_

/-- The rows taken from the embedding `X`, NaN at a position that names no row. -/
def taken (X : Vec F S50x256 .f32) : Vec F S32x256 .f32 :=
  select (broadcastInDim S32x256 ![0] bcast_S32_S32x256_0 inTable)
    (Host.gather gather_S50x256_S32x1_S32x256_1_0_n_n_0_1_1256 X positions)
    (broadcastInDim S32x256 ![] bcast_S_S32x256 (constant S_ .f32 0x7FC00000#32))

/-- Position `j` is `j`. -/
theorem positions_apply (j : Fin 32) (z : Fin 1) : positions (ix2 j z) = BitVec.ofNat 32 j.val := by
  show Scalar.select (IntOp.cmpi .slt (BitVec.ofNat 32 j.val) 0#32) (IntOp.addi (BitVec.ofNat 32 j.val) 50#32) (BitVec.ofNat 32 j.val) = _
  revert j
  decide

/-- Every position names a row. -/
theorem inTable_apply (j : S32.Idx) : inTable j = 1#1 := by
  refine Host.reduce_andi_one _ _ _ _ j rfl fun (i : S32x1.Idx) => ?_
  obtain ⟨k, z, rfl⟩ : ∃ (k : Fin 32) (z : Fin 1), i = ix2 k z := ⟨i 0, i 1, eq_ix2 i⟩
  show IntOp.andi (IntOp.cmpi .sge (positions (ix2 k z)) 0#32) (IntOp.cmpi .sle (positions (ix2 k z)) 49#32) = 1#1
  rw [positions_apply]
  revert k
  decide

/-- What is taken is row `x` of the embedding, for each of the 32 positions `x`. -/
theorem taken_apply (X : Vec F S50x256 .f32) (x : Fin 32) (p : Fin 256) :
    taken X (ix2 x p) = X (ix2 (⟨x.val, by omega⟩ : Fin 50) p) := by
  show Scalar.select (inTable _) (Host.gather gather_S50x256_S32x1_S32x256_1_0_n_n_0_1_1256 X positions (ix2 x p)) _ = _
  rw [inTable_apply]
  exact Routing.gather_row gather_S50x256_S32x1_S32x256_1_0_n_n_0_1_1256 rfl rfl rfl rfl rfl X positions x p
    (⟨x.val, by omega⟩ : Fin 50) (positions_apply x 0) (by decide)

end Cert.ReferenceIdeal.Hand

end
-- ==== Proof.Layout.lean ====
/-
  WHAT THE REFERENCE COMPUTES. It tiles the rows it took of the column embedding down the grid and those of the row
  embedding across it, puts the two side by side in 512 channels, moves the channels to the front and repeats the result
  for every batch entry. Each step only moves entries, so each is read one entry at a time:

      columns      at (y, x, p)        row `x` of the column embedding at `p`
      rows         at (y, x, p)        row `y` of the row embedding at `p`
      channels     at (p, y, x)        the first for p < 256, the second, at p − 256, for p ≥ 256
      repeated     at (b, p, y, x)     channels at (p, y, x)
-/
module

public import proofs.«01_k».proof.Proof.Rows
public import Idealize.ShloMosaic.Lib.Pointwise.Reshape
public import Idealize.ShloMosaic.Lib.ValueIdxRank6

@[expose] public section

noncomputable section

namespace Cert.ReferenceIdeal.Hand

open Cert.ReferenceIdeal Cert.ReferenceIdeal.Gen
open Idealize.ShloMosaic hiding ix2 ix3 ix4 ix6
open Idealize.ShloMosaic.ValueIdx

variable {F : FTy → Type} [FloatOps F]

/-- A block of 32 rows tiled down the grid: the grid's column picks the row. -/
def acrossColumns (T : Vec F S32x256 .f32) : Vec F S32x32x256 .f32 :=
  shapeCast _ (broadcastInDim S32x1x1x32x1x256 ![0, 1, 2, 3, 4, 5] bcast_S1x1x1x32x1x256_S32x1x1x32x1x256_0_1_2_3_4_5
    (shapeCast _ (broadcastInDim S1x32x256 ![1, 2] bcast_S32x256_S1x32x256_1_2 T) shapeCasts_S1x32x256_S1x1x1x32x1x256))
    shapeCasts_S32x1x1x32x1x256_S32x32x256

/-- A block of 32 rows tiled across the grid: the grid's row picks the row. -/
def acrossRows (T : Vec F S32x256 .f32) : Vec F S32x32x256 .f32 :=
  shapeCast _ (broadcastInDim S1x32x32x1x1x256 ![0, 1, 2, 3, 4, 5] bcast_S1x32x1x1x1x256_S1x32x32x1x1x256_0_1_2_3_4_5
    (shapeCast _ (broadcastInDim S32x1x256 ![0, 2] bcast_S32x256_S32x1x256_0_2 T) shapeCasts_S32x1x256_S1x32x1x1x1x256))
    shapeCasts_S1x32x32x1x1x256_S32x32x256

/-- The two side by side, channels in front. -/
def channels (A B : Vec F S32x32x256 .f32) : Vec F S512x32x32 .f32 :=
  transpose S512x32x32 [2, 0, 1]
    (concatenate S32x32x512 2 [⟨S32x32x256, A⟩, ⟨S32x32x256, B⟩] concatenates_S32x32x256_S32x32x256_S32x32x512_d2)
    transposes_S32x32x512_S512x32x32_2_0_1

/-- The channels repeated for every batch entry. -/
def repeated (T : Vec F S512x32x32 .f32) : Vec F S16x512x32x32 .f32 :=
  shapeCast _ (broadcastInDim S16x1x1x512x1x32x1x32 ![0, 1, 2, 3, 4, 5, 6, 7] bcast_S1x1x1x512x1x32x1x32_S16x1x1x512x1x32x1x32_0_1_2_3_4_5_6_7
    (shapeCast _ (broadcastInDim S1x512x32x32 ![1, 2, 3] bcast_S512x32x32_S1x512x32x32_1_2_3 T) shapeCasts_S1x512x32x32_S1x1x1x512x1x32x1x32))
    shapeCasts_S16x1x1x512x1x32x1x32_S16x512x32x32

theorem acrossColumns_apply (T : Vec F S32x256 .f32) (y x : Fin 32) (p : Fin 256) : acrossColumns T (ix3 y x p) = T (ix2 x p) := by
  unfold acrossColumns
  refine (shapeCast_apply (s := S32x1x1x32x1x256) (t := S32x32x256) _ _ (ix3 y x p) (ix6 y (0 : Fin 1) (0 : Fin 1) x (0 : Fin 1) p) ?_).trans ?_
  · rw [Shape.rowMajor_val_six, Shape.rowMajor_val_three]
    dsimp
    omega
  refine (broadcastInDim_apply (s := S1x1x1x32x1x256) (t := S32x1x1x32x1x256) _ _ _ _
    (ix6 (0 : Fin 1) (0 : Fin 1) (0 : Fin 1) x (0 : Fin 1) p) fun a => by fin_cases a <;> rfl).trans ?_
  refine (shapeCast_apply (s := S1x32x256) (t := S1x1x1x32x1x256) _ _ _ (ix3 (0 : Fin 1) x p) ?_).trans ?_
  · rw [Shape.rowMajor_val_six, Shape.rowMajor_val_three]
    dsimp
    omega
  exact broadcastInDim_apply (s := S32x256) (t := S1x32x256) _ _ _ _ (ix2 x p) fun a => by fin_cases a <;> rfl

theorem acrossRows_apply (T : Vec F S32x256 .f32) (y x : Fin 32) (p : Fin 256) : acrossRows T (ix3 y x p) = T (ix2 y p) := by
  unfold acrossRows
  refine (shapeCast_apply (s := S1x32x32x1x1x256) (t := S32x32x256) _ _ (ix3 y x p) (ix6 (0 : Fin 1) y x (0 : Fin 1) (0 : Fin 1) p) ?_).trans ?_
  · rw [Shape.rowMajor_val_six, Shape.rowMajor_val_three]
    dsimp
    omega
  refine (broadcastInDim_apply (s := S1x32x1x1x1x256) (t := S1x32x32x1x1x256) _ _ _ _
    (ix6 (0 : Fin 1) y (0 : Fin 1) (0 : Fin 1) (0 : Fin 1) p) fun a => by fin_cases a <;> rfl).trans ?_
  refine (shapeCast_apply (s := S32x1x256) (t := S1x32x1x1x1x256) _ _ _ (ix3 y (0 : Fin 1) p) ?_).trans ?_
  · rw [Shape.rowMajor_val_six, Shape.rowMajor_val_three]
    dsimp
    omega
  exact broadcastInDim_apply (s := S32x256) (t := S32x1x256) _ _ _ _ (ix2 y p) fun a => by fin_cases a <;> rfl

/-- Channel `p` below 256 comes from the first piece. -/
theorem channels_low (A B : Vec F S32x32x256 .f32) (p : Fin 512) (y x : Fin 32) (h : p.val < 256) :
    channels A B (ix3 p y x) = A (ix3 y x (⟨p.val, h⟩ : Fin 256)) := by
  unfold channels
  refine (transpose_apply (s := S32x32x512) (t := S512x32x32) _ _ _ _ (ix3 y x p) fun b => by fin_cases b <;> rfl).trans ?_
  exact concatenate_pair_apply_left (s₁ := S32x32x256) (s₂ := S32x32x256) (t := S32x32x512) 2 A B _ _ rfl _ fun b => by fin_cases b <;> rfl

/-- Channel `p` from 256 on comes from the second piece, at `p − 256`. -/
theorem channels_high (A B : Vec F S32x32x256 .f32) (p : Fin 512) (y x : Fin 32) (h : ¬p.val < 256) :
    channels A B (ix3 p y x) = B (ix3 y x (⟨p.val - 256, by omega⟩ : Fin 256)) := by
  unfold channels
  refine (transpose_apply (s := S32x32x512) (t := S512x32x32) _ _ _ _ (ix3 y x p) fun b => by fin_cases b <;> rfl).trans ?_
  refine concatenate_pair_apply_right (s₁ := S32x32x256) (s₂ := S32x32x256) (t := S32x32x512) 2 A B _ _ rfl rfl _ (fun b hb => ?_)
    (show p.val - 256 + 256 = p.val by omega)
  match b, hb with
  | ⟨0, _⟩, _ => rfl
  | ⟨1, _⟩, _ => rfl
  | ⟨2, _⟩, hb => exact absurd rfl hb

/-- Batch entry `b` of the result is the channels, whichever `b`. -/
theorem repeated_apply (T : Vec F S512x32x32 .f32) (b : Fin 16) (p : Fin 512) (y x : Fin 32) :
    repeated T (ix4 b p y x) = T (ix3 p y x) := by
  unfold repeated
  refine (shapeCast_apply (s := S16x1x1x512x1x32x1x32) (t := S16x512x32x32) _ _ (ix4 b p y x)
    (ix8 b (0 : Fin 1) (0 : Fin 1) p (0 : Fin 1) y (0 : Fin 1) x) ?_).trans ?_
  · rw [rowMajor_val8 _ 524288 524288 524288 1024 1024 32 32 rfl rfl rfl rfl rfl rfl rfl, Shape.rowMajor_val_four]
    show b.val * 524288 + 0 * 524288 + 0 * 524288 + p.val * 1024 + 0 * 1024 + y.val * 32 + 0 * 32 + x.val = ((b.val * 512 + p.val) * 32 + y.val) * 32 + x.val
    omega
  refine (broadcastInDim_apply (s := S1x1x1x512x1x32x1x32) (t := S16x1x1x512x1x32x1x32) _ _ _ _
    (ix8 (0 : Fin 1) (0 : Fin 1) (0 : Fin 1) p (0 : Fin 1) y (0 : Fin 1) x) fun a => by fin_cases a <;> rfl).trans ?_
  refine (shapeCast_apply (s := S1x512x32x32) (t := S1x1x1x512x1x32x1x32) _ _ _ (ix4 (0 : Fin 1) p y x) ?_).trans ?_
  · rw [rowMajor_val8 _ 524288 524288 524288 1024 1024 32 32 rfl rfl rfl rfl rfl rfl rfl, Shape.rowMajor_val_four]
    show ((0 * 512 + p.val) * 32 + y.val) * 32 + x.val = 0 * 524288 + 0 * 524288 + 0 * 524288 + p.val * 1024 + 0 * 1024 + y.val * 32 + 0 * 32 + x.val
    omega
  exact broadcastInDim_apply (s := S512x32x32) (t := S1x512x32x32) _ _ _ _ (ix3 p y x) fun a => by fin_cases a <;> rfl

end Cert.ReferenceIdeal.Hand

end
-- ==== Proof.Equation.lean ====
/-
  THE EQUATION. From the same two embeddings the kernel and the reference hold the same word at every entry: at batch
  entry `b`, channel `p`, row `y` and column `x`, column embedding `x` at `p` for p < 256 and row embedding `y` at
  `p − 256` from there on. No arithmetic is done on the way, so this holds whatever the floats are read as.
-/
module

public import proofs.«01_k».proof.Proof.Layout
public import proofs.«01_k».proof.Proof.Table
public import proofs.«01_k».proof.Proof.Gen.ReferenceIdeal.Run

@[expose] public section

noncomputable section

namespace Cert.ReferenceIdeal.Hand

open Cert.ReferenceIdeal Cert.ReferenceIdeal.Gen
open Idealize.ShloMosaic hiding ix2 ix3 ix4 ix6
open Idealize.ShloMosaic.TcCoe Idealize.SL.Sem
open Idealize.ShloMosaic.ValueIdx

variable {F : FTy → Type} [FloatOps F]

/-- The reference's result from the row embedding and the column embedding. -/
def positional (row col : Vec F S50x256 .f32) : Vec F S16x512x32x32 .f32 :=
  repeated (channels (acrossColumns (taken col)) (acrossRows (taken row)))

/-- The reference's channels are the kernel's position table. -/
theorem channels_eq_table (row col : Vec F S50x256 .f32) (p : Fin 512) (y x : Fin 32) :
    channels (acrossColumns (taken col)) (acrossRows (taken row)) (ix3 p y x) = Cert.KernelIdeal.Hand.table row col (ix3 p y x) := by
  by_cases h : p.val < 256
  · rw [channels_low _ _ p y x h, acrossColumns_apply, taken_apply]
    unfold Cert.KernelIdeal.Hand.table
    rw [dif_pos (show ((ix3 p y x : S512x32x32.Idx) 0).val < 256 from h)]
  · rw [channels_high _ _ p y x h, acrossRows_apply, taken_apply]
    unfold Cert.KernelIdeal.Hand.table
    rw [dif_neg (show ¬((ix3 p y x : S512x32x32.Idx) 0).val < 256 from h)]

/-- The reference's result is the kernel's: the position table in every batch entry. -/
theorem positional_eq (c : Dev Cert.KernelIdeal.nD) (row col : Vec F S50x256 .f32) :
    positional row col = Cert.KernelIdeal.Hand.spread (c := c) (Cert.KernelIdeal.Hand.table row col) := by
  refine funext fun (i : S16x512x32x32.Idx) => ?_
  obtain ⟨b, p, y, x, rfl⟩ : ∃ (b : Fin 16) (p : Fin 512) (y x : Fin 32), i = ix4 b p y x := ⟨i 0, i 1, i 2, i 3, ValueIdx.eq_ix4 i⟩
  exact (repeated_apply _ b p y x).trans (channels_eq_table row col p y x)

/-- THE REFERENCE'S RUN: on every core the result is `positional` of the two embeddings, the arguments are unchanged, and
    every semaphore's counter is zero, the reference having no semaphore. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v17) = positional (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨h, sem_eq_zero_of_no_sems (by decide) r.2⟩) (Value.run m ρ)

end Cert.ReferenceIdeal.Hand

end
-- ==== Proof.lean ====
/-
  THE PROOF OF `Cert.Claim` (proofs.«01_k».proof.Defs). Its parts are proved in the modules under Proof/: `Copies`, what
  the kernel's sixteen copies leave in the result; `Table`, what the kernel's position table holds; `Block`, what its one
  block does; `Launch`, its run; `Words`, the same run for the kernel that is not idealized; `Rows` and `Layout`, what
  the reference computes; `Equation`, that the two are equal. This file reads the five claims off them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Words
public import proofs.«01_k».proof.Proof.Equation
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m ρ _ => frame_kernel Bits m ρ

/-- The idealized kernel's frame. -/
theorem frame_pi : Cert.quiescent_KernelIdeal := fun m ρ _ => frame_idealized Ideal m ρ

/-- The reference's frame. -/
theorem frame_ri : Cert.quiescent_ReferenceIdeal := fun m ρ _ =>
  (θ_run Cert.ReferenceIdeal.defs _ _).mono (fun _ h => ⟨fun c => (h.1 c).2, h.2⟩) (Cert.ReferenceIdeal.Hand.run m ρ)

/-- The value claim: the kernel and the reference compute the same array from the same arguments, on every core. The value
    that they share is the position table in every batch entry. -/
theorem algebraic : Cert.algebraic_KernelIdeal_ReferenceIdeal := by
  intro m ρ m' ρ' _ same
  refine ⟨fun c => Cert.KernelIdeal.Hand.resultOf m c,
    (θ_run Cert.KernelIdeal.defs _ _).mono (fun _ h => h.1) (Cert.KernelIdeal.Hand.run m ρ),
    (θ_run Cert.ReferenceIdeal.defs _ _).mono (fun _ h c => ⟨(h.1 c).1.trans ?_, (h.1 c).2⟩) (Cert.ReferenceIdeal.Hand.run m' ρ')⟩
  rw [(same c).2.1, (same c).2.2]
  exact Cert.ReferenceIdeal.Hand.positional_eq c _ _

theorem claim : Cert.Claim :=
  ⟨Cert.Kernel.Gen.facts, Cert.KernelIdeal.Gen.facts, Cert.ReferenceIdeal.Gen.facts, frame_p, frame_pi, frame_ri, trivial, algebraic⟩

end Cert.Proof

end
